-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S100000x128 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S100000x128 : Shape := ⟨2, ![100000, 128]⟩
abbrev S1024 : Shape := ⟨1, ![1024]⟩
abbrev S1024x128 : Shape := ⟨2, ![1024, 128]⟩
abbrev S64 : Shape := ⟨1, ![64]⟩
abbrev S64x128 : Shape := ⟨2, ![64, 128]⟩
abbrev S_ : Shape := ⟨0, ![]⟩
abbrev S16x128 : Shape := ⟨2, ![16, 128]⟩
abbrev S16 : Shape := ⟨1, ![16]⟩

abbrev nBuf : Table → Nat
  | .hbm => 3
  | .local .scVector .vmem => 2
  | _ => 0

abbrev bufTy : (tb : Table) → Fin (nBuf tb) → BufTy
  | .hbm, ⟨0, _⟩ => ⟨S100000x128, .f32⟩
  | .hbm, ⟨1, _⟩ => ⟨S1024, .i32⟩
  | .hbm, ⟨2, _⟩ => ⟨S1024x128, .f32⟩
  | .local .scVector .vmem, ⟨0, _⟩ => ⟨S64, .i32⟩
  | .local .scVector .vmem, ⟨1, _⟩ => ⟨S64x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c64_i32 : BitVec 32 := 64#32
  let v0 : BitVec 32 := Scalar.muli arg1 c64_i32
  ![v0.toNat]
def k0_off2 (i : grid0.Coords) (c0_i32_21 : BitVec 32) : Fin 2 → Nat :=
  let arg1 : BitVec 32 := BitVec.ofNat 32 (i 1).val
  let c64_i32 : BitVec 32 := 64#32
  let v0 : BitVec 32 := Scalar.muli arg1 c64_i32
  let v16 : BitVec 32 := Scalar.addi v0 c0_i32_21
  let c0_i32_24 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S1024x128, .f32⟩
  | .hbm, ⟨21, _⟩ => ⟨S1024x128, .i1⟩
  | .hbm, ⟨22, _⟩ => ⟨S_, .f32⟩
  | .hbm, ⟨23, _⟩ => ⟨S1024x128, .f32⟩
  | .hbm, ⟨24, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rows.lean ====
/-
  WHAT THE KERNEL COMPUTES, as one function of its two arguments: `taken x ids` is the 1024 × 128 array whose row `t` is
  row `ids t` of the 100000 × 128 table `x`. Both programs' results are shown to be this array, the kernel's in
  Run.lean and the reference's in Reference.lean. The row number is cut off at the last row, as the host's gather cuts
  it off, so that the function is total; for the numbers the precondition allows the cut changes nothing.
-/
module

public import proofs.«01_k».proof.KernelIdeal
public import Idealize.ShloMosaic.Lib.ValueIdxCore

@[expose] public section

noncomputable section

namespace Cert.Proof.Take

open Cert.KernelIdeal
open Idealize.ShloMosaic Idealize.ShloMosaic.ValueIdx

/-- The row of the table that the word `v` names, cut off at the last one. -/
def rowNo (v : BitVec 32) : Fin 100000 := ⟨min v.toNat 99999, by omega⟩

/-- A word below 100000 names the row of its own value. -/
theorem rowNo_val {v : BitVec 32} (h : v.toNat < 100000) : (rowNo v).val = v.toNat := Nat.min_eq_left (by omega)

/-- The rows of `x` that `ids` names, in the order `ids` names them. -/
def taken {α : Type} (x : S100000x128.Idx → α) (ids : IVec S1024 32) : S1024x128.Idx → α :=
  fun j => x (ix2 (rowNo (ids (ix1 (j 0)))) (j 1))

end Cert.Proof.Take

end
-- ==== Proof.Setup.lean ====
/-
  THE LAUNCH AND THE TASKS' REGIONS. The program as the SparseCore launch theorem takes it; the three arrays in HBM (the
  table `x`, the row numbers `idx`, the result `out`); and the pieces a tile works on. Tile `i` of the sixteen owns
  entries `[64 i, 64 i + 64)` of `idx` (`iSet i`) and rows `[64 i, 64 i + 64)` of `out`, the latter cut again into four
  chunks of sixteen rows (`oSet i k`), since each chunk is written out by a transfer of its own. Every tile reads any row
  of the table, so each holds a read share of the whole of it (`xShare i`).
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ReduceAll
public import Idealize.ShloMosaic.Lib.Tactic
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Pre_in_range

@[expose] public section

noncomputable section

namespace Cert.Proof.Take

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels, its one SparseCore call, and its table of bodies. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen tiles. -/
theorem nSub_call : (K (F := F)).nSub 0 = 16 := rfl

/-- What the launch theorem asks of the call: its semaphores are apart and no kernel allocates them, and no buffer is
    shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S100000x128 EltTy.f32)
local notation "iV" => (Memref.whole Cert.KernelIdeal.main_arg1_scv : Memref Cert.KernelIdeal.sig Kind.scVector Space.hbm Cert.KernelIdeal.S1024 EltTy.i32)
local notation "oV" => (Memref.whole Cert.KernelIdeal.main_v0_scv : Memref Cert.KernelIdeal.sig Kind.scVector Space.hbm Cert.KernelIdeal.S1024x128 EltTy.f32)

variable (m : (ℓ : Loc nD τ sig) → Buf (Elt F) ℓ)

/-- The rows the launch memory's `idx` names of its `x`: what `out` is to hold. -/
abbrev want (d : Dev nD) : Buf (Elt F) (oLoc d) := taken (m (xLoc d)) (m (iLoc d))

/-- What the proof asks of the launch memory: every entry of `idx` is the number of a row of `x`. -/
def InRange : Prop := ∀ (d : Dev nD) (j : S1024.Idx), (m (iLoc d) j).toNat < 100000

/-! ## The tiles' regions -/

theorem idiv : 16 ∣ S1024.size 0 := ⟨64, rfl⟩
theorem odiv : 16 * 4 ∣ S1024x128.size 0 := ⟨16, rfl⟩

/-- Tile `i`'s 64 entries of `idx`. -/
abbrev iPart (i : Fin 16) : Rect S1024 := Rect.part (s := S1024) (a₀ := 0) idiv i
abbrev iSet (i : Fin 16) : Finset S1024.Idx := ((iV).view.slice (iPart i)).set
/-- Tile `i`'s `k`-th sixteen rows of `out`. -/
abbrev oPart (i : Fin 16) (k : Fin 4) : Rect S1024x128 := Rect.part (s := S1024x128) (a₀ := 0) odiv (finProdFinEquiv (i, k))
abbrev oSet (i : Fin 16) (k : Fin 4) : Finset S1024x128.Idx := ((oV).view.slice (oPart i k)).set
/-- Tile `i`'s share of the table. -/
abbrev xShare (i : Fin 16) : PosShare TreeShare := Transfers.shareTok fullShare 16 i

theorem iSet_eq (i : Fin 16) : iSet i = (iPart i).set := by
  show ((View.whole (main_arg1_scv : Ref sig .scVector)).slice (iPart i)).set = _
  rw [View.set_slice]; exact Finset.map_refl
theorem oSet_eq (i : Fin 16) (k : Fin 4) : oSet i k = (oPart i k).set := by
  show ((View.whole (main_v0_scv : Ref sig .scVector)).slice (oPart i k)).set = _
  rw [View.set_slice]; exact Finset.map_refl

theorem iSet_disjoint : ∀ i ∈ (Finset.univ : Finset (Fin 16)), ∀ j ∈ (Finset.univ : Finset (Fin 16)), i ≠ j → Disjoint (iSet i) (iSet j) :=
  fun i _ j _ h => by rw [iSet_eq, iSet_eq]; exact Rect.part_disjoint idiv h
theorem iSet_cover : (Finset.univ : Finset (Fin 16)).biUnion iSet = Finset.univ :=
  (Finset.biUnion_congr rfl fun i _ => iSet_eq i).trans (Rect.biUnion_part idiv)

/-- `idx` is its sixteen tiles' parts. -/
theorem idx_parts (d : Dev nD) (f : Buf (Elt F) (iLoc d)) :
    (iLoc d ↦{fullShare} f : sProp 𝕄) = bigSep Finset.univ fun i : Fin 16 => iLoc d ↦[iSet i]{fullShare} f := by
  rw [← pointsTo_biUnion Finset.univ (ℓ := iLoc d) iSet iSet_disjoint, iSet_cover]

theorem oSet_disjoint : ∀ p ∈ (Finset.univ : Finset (Fin 16 × Fin 4)), ∀ q ∈ (Finset.univ : Finset (Fin 16 × Fin 4)), p ≠ q →
    Disjoint (oSet p.1 p.2) (oSet q.1 q.2) :=
  fun p _ q _ h => by
    rw [oSet_eq, oSet_eq]
    exact Rect.part_disjoint odiv fun e => h (finProdFinEquiv.injective e)
theorem oSet_cover : (Finset.univ : Finset (Fin 16 × Fin 4)).biUnion (fun p => oSet p.1 p.2) = Finset.univ := by
  refine (Finset.biUnion_congr rfl fun p _ => oSet_eq p.1 p.2).trans ?_
  rw [← Rect.biUnion_part odiv]
  ext j
  simp only [Finset.mem_biUnion, Finset.mem_univ, true_and]
  exact ⟨fun ⟨p, h⟩ => ⟨finProdFinEquiv p, h⟩, fun ⟨n, h⟩ => ⟨finProdFinEquiv.symm n,
    show j ∈ (Rect.part odiv (finProdFinEquiv (finProdFinEquiv.symm n))).set by rw [Equiv.apply_symm_apply]; exact h⟩⟩

/-- `out` is its sixteen tiles' four chunks each. -/
theorem out_chunks (d : Dev nD) (f : Buf (Elt F) (oLoc d)) :
    (oLoc d ↦{fullShare} f : sProp 𝕄) = bigSep Finset.univ fun i : Fin 16 => bigSep Finset.univ fun k : Fin 4 => oLoc d ↦[oSet i k]{fullShare} f := by
  rw [← bigSep_univ_prod (fun (p : Fin 16 × Fin 4) => (oLoc d ↦[oSet p.1 p.2]{fullShare} f : sProp 𝕄)),
    ← pointsTo_biUnion Finset.univ (ℓ := oLoc d) (fun p : Fin 16 × Fin 4 => oSet p.1 p.2) oSet_disjoint, oSet_cover]

end Cert.Proof.Take

end
-- ==== Proof.Tile.lean ====
/-
  ONE TILE'S TASK, at a symbolic SparseCore and tile. The tile fetches its 64 entries of `idx` into its list scratch and
  waits; issues four gathers, each bringing the sixteen rows of the table that sixteen entries of the list name into a
  window of its row scratch; and, as each gather is over, sends that window's rows to its chunk of `out`; at the end it
  waits for the four write-outs. `tile_body` is the task's triple, values included: from its entries of `idx`, its read
  share of the table and its four chunks of `out` at the launch contents to the same with the four chunks at `want`.
  What the transfers carry is three facts, each stated once for any window: `gather_value` (a gather from entry `o` of
  the list), `scratch_value` (the row scratch once the four windows are filled) and `chunk_value` (chunk `k` of `out`
  once it is written).
-/
module

public import proofs.«01_k».proof.Proof.Setup

@[expose] public section

noncomputable section

namespace Cert.Proof.Take

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S100000x128 EltTy.f32)
local notation "iV" => (Memref.whole Cert.KernelIdeal.main_arg1_scv : Memref Cert.KernelIdeal.sig Kind.scVector Space.hbm Cert.KernelIdeal.S1024 EltTy.i32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

variable (m : (ℓ : Loc nD τ sig) → Buf (Elt F) ℓ)
variable [FloatOps F]
variable (d : Dev nD) (L : grid0.Coords)

/-- The SparseCore and the tile at grid point `L`, and its number among the sixteen. -/
abbrev cV (L : grid0.Coords) : Fin τ.nSC := (L 0).castLE hcore0
abbrev jV (L : grid0.Coords) : Fin τ.nSub := (L 1).castLE hsub0
theorem tiles : grid0.bound 1 = 16 := rfl
abbrev jL (L : grid0.Coords) : Fin 16 := Fin.cast tiles (L 1)

/-! ## The pieces as the program spells them -/

abbrev iRectK (L : grid0.Coords) : Rect S1024 := Rect.unit (s := S1024) (k0_off1 L) S64.size (k0_off1_inb L)
abbrev oRectK (L : grid0.Coords) (k : Fin 4) : Rect S1024x128 :=
  Rect.unit (s := S1024x128) (k0_off2 L (BitVec.ofNat 32 (16 * k.val))) S16x128.size (k0_off2_inb L k)
abbrev iK (L : grid0.Coords) : Memref sig .scVector .hbm S64 .i32 := (iV).slice (iRectK L) (fun _ => rfl)
abbrev oK (L : grid0.Coords) (k : Fin 4) : Memref sig .scVector .hbm S16x128 .f32 := (oV).slice (oRectK L k) (fun _ => rfl)
abbrev xK : Memref sig .scVector .hbm S100000x128 .f32 :=
  (xV).slice (Rect.unit (s := S100000x128) ![0, 0] S100000x128.size inb_S100000x128_S100000x128_0_0) (fun _ => rfl)
/-- Sixteen entries of the list scratch from entry `o` on. -/
abbrev sK (o : ℕ) (h : ∀ a, (![o] : Fin 1 → ℕ) a + S16.size a ≤ S64.size a) : Memref sig .scVector .vmem S16 .i32 :=
  (sV).slice (Rect.unit (s := S64) ![o] S16.size h) (fun _ => rfl)
abbrev rK (o : ℕ) (h : ∀ a, (![o, 0] : Fin 2 → ℕ) a + S16x128.size a ≤ S64x128.size a) : Memref sig .scVector .vmem S16x128 .f32 :=
  (rV).slice (Rect.unit (s := S64x128) ![o, 0] S16x128.size h) (fun _ => rfl)

omit [FloatOps F] in
/-- The offsets the program computes are those of the tile's part of `idx`, and of its chunks of `out` (`oRectK_eq`). -/
theorem iRectK_eq : iRectK L = iPart (jL L) := by
  unfold iRectK iPart Rect.part Rect.block
  congr 1 <;> funext a
  · rw [k0_off1_eq]
    match a with
    | 0 => simp [Shape.partIx, Shape.partSize]; omega
  · match a with
    | 0 => simp [Shape.partSize]
omit [FloatOps F] in
theorem oRectK_eq (k : Fin 4) : oRectK L k = oPart (jL L) k := by
  unfold oRectK oPart Rect.part Rect.block
  congr 1 <;> funext a
  · rw [k0_off2_eq]
    match a with
    | 0 =>
      have e : (finProdFinEquiv (jL L, k)).val = k.val + 4 * (L 1).val := rfl
      simp [Shape.partIx, Shape.partSize, e]; omega
    | 1 => simp [Shape.partIx, Shape.partSize]
  · match a with
    | 0 => simp [Shape.partSize]
    | 1 => simp [Shape.partSize]

omit [FloatOps F] in
/-- Held through the program's own slice or as the tile's part, the entries of `idx` are the same; so with a chunk of `out` and
    with the table (`pts_o`, `pts_x`). -/
theorem pts_i (f : Buf (Elt F) (iLoc d)) :
    ((iK L).view.loc (V d (cV L) (jV L)) ↦[(iK L).view.set]{fullShare} f : sProp 𝕄) = iLoc d ↦[iSet (jL L)]{fullShare} f := by
  rw [show (iK L).view.set = iSet (jL L) from by
    show ((iV).view.slice (iRectK L)).set = ((iV).view.slice (iPart (jL L))).set
    exact iRectK_eq L ▸ rfl]
omit [FloatOps F] in
theorem pts_o (k : Fin 4) (f : Buf (Elt F) (oLoc d)) :
    ((oK L k).view.loc (V d (cV L) (jV L)) ↦[(oK L k).view.set]{fullShare} f : sProp 𝕄) = oLoc d ↦[oSet (jL L) k]{fullShare} f := by
  rw [show (oK L k).view.set = oSet (jL L) k from by
    show ((oV).view.slice (oRectK L k)).set = ((oV).view.slice (oPart (jL L) k)).set
    exact oRectK_eq L k ▸ rfl]

omit [FloatOps F] in
theorem pts_x (q : PosShare TreeShare) (f : Buf (Elt F) (xLoc d)) :
    ((xV).view.loc (V d (cV L) (jV L)) ↦{q} f : sProp 𝕄) = xLoc d ↦{q} f := rfl

/-! ## The tile's semaphores and scratch -/

abbrev cell (d : Dev nD) (c : Fin τ.nSC) (i : Fin τ.nSub) (s : DmaSem sig) : GSem nD τ sig := (V d c i, .dma s)

omit [FloatOps F] in
/-- The tile's own semaphores are the nine the task uses: the list fetch's, the four gathers', the four write-outs'. -/
theorem sems_own (c : Fin τ.nSC) (i : Fin τ.nSub) :
    (ownSems0 (V d c i) : sProp 𝕄)
      = iprop(semVal (cell d c i cc0_scoped0.sem) 0
          ∗ semVal (cell d c i cc0_scratch2.sem) 0 ∗ semVal (cell d c i cc0_scratch3.sem) 0
          ∗ semVal (cell d c i cc0_scratch4.sem) 0 ∗ semVal (cell d c i cc0_scratch5.sem) 0
          ∗ semVal (cell d c i cc0_scratch6.sem) 0 ∗ semVal (cell d c i cc0_scratch7.sem) 0
          ∗ semVal (cell d c i cc0_scratch8.sem) 0 ∗ semVal (cell d c i cc0_scratch9.sem) 0) := by
  rw [SparseCore.Cfg.ownSems0_eq, show (Finset.univ.filter fun sm : SemLoc sig => (sm.isScoped .scVector : Prop))
      = {.dma cc0_scoped0.sem, .dma cc0_scratch2.sem, .dma cc0_scratch3.sem, .dma cc0_scratch4.sem, .dma cc0_scratch5.sem,
          .dma cc0_scratch6.sem, .dma cc0_scratch7.sem, .dma cc0_scratch8.sem, .dma cc0_scratch9.sem} by decide]
  iterate 8 rw [SparseCore.bigSep_insert' (by decide)]
  rw [bigSep_singleton]

omit [FloatOps F] in
/-- The list scratch and the row scratch are among the tile's own buffers. -/
theorem bufs_own (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector c i) (b := (Proc.scVector c i).devRef cc0_scratch1) rfl⟩)]

omit [FloatOps F] in
/-- Four terms, one by one. -/
theorem four (Φ : Fin 4 → sProp 𝕄) : bigSep Finset.univ Φ = iprop(Φ 0 ∗ Φ 1 ∗ Φ 2 ∗ Φ 3) := by
  rw [show (Finset.univ : Finset (Fin 4)) = {0, 1, 2, 3} from by decide]
  iterate 3 rw [SparseCore.bigSep_insert' (by decide)]
  rw [bigSep_singleton]

/-- What tile `i` holds of the three arrays: its share of the table, its entries of `idx`, its chunks of `out` at contents `f`. -/
abbrev xPiece (d : Dev nD) (i : Fin 16) : sProp 𝕄 := xLoc d ↦{xShare i} m (xLoc d)
abbrev iPiece (d : Dev nD) (i : Fin 16) : sProp 𝕄 := iLoc d ↦[iSet i]{fullShare} m (iLoc d)
abbrev oPiece (d : Dev nD) (i : Fin 16) (f : Buf (Elt F) (oLoc d)) : sProp 𝕄 :=
  bigSep Finset.univ fun k : Fin 4 => oLoc d ↦[oSet i k]{fullShare} f

omit [FloatOps F] in
/-- The entries a gather reads from the list scratch, once the list is fetched, are numbers of rows of the table. -/
theorem hin (h : InRange m) (o : ℕ) (ho : ∀ a, (![o] : Fin 1 → ℕ) a + S16.size a ≤ S64.size a)
    (g : Buf (Elt F) ((V d (cV L) (jV L)).loc cc0_scratch0)) :
    ∀ x, ((sK o ho).view.read (Elt F) (View.write (Elt F) (sV).view g (ReadAs.same.apply ((iK L).view.read (Elt F) (m (iLoc d)))) Finset.univ) x).toNat
      < S100000x128.size gathers_S100000x128_S16x128.axis := by
  intro x
  rw [View.write_whole_univ]
  exact h d _

/-! ## What the transfers carry -/

/-- Where row `y` of the tile's 64 rows of scratch belongs in `out`: the tile's rows start at row `64 i`. -/
def outIx (L : grid0.Coords) (y : S64x128.Idx) : S1024x128.Idx :=
  ix2 ⟨64 * (L 1).val + (y 0).val, by have := (L 1).isLt; have := (y 0).isLt; simp [S64x128, grid0] at *; omega⟩ (y 1)

/-- Sixteen rows of the row scratch from row `o` on, as a window of it. -/
abbrev rWin (o : ℕ) (h : ∀ a, (![o, 0] : Fin 2 → ℕ) a + S16x128.size a ≤ S64x128.size a) : Rect S64x128 :=
  Rect.unit (s := S64x128) ![o, 0] S16x128.size h

omit [FloatOps F] in
/-- A gather from entry `o` of the tile's list brings the rows `out` is to hold in the sixteen rows from the tile's row `o` on. -/
theorem gather_value (hpre : InRange m) (o : ℕ) (hs : ∀ a, (![o] : Fin 1 → ℕ) a + S16.size a ≤ S64.size a)
    (hr : ∀ a, (![o, 0] : Fin 2 → ℕ) a + S16x128.size a ≤ S64x128.size a)
    (fs : Buf (Elt F) ((V d (cV L) (jV L)).loc cc0_scratch0)) (hn) (hk) (x : S16x128.Idx) :
    SparseCore.gatherPayload gathers_S100000x128_S16x128 (xK.view.read (Elt F) (m (xLoc d)))
        (SparseCore.rows ((sK o hs).view.read (Elt F) (View.write (Elt F) (sV).view fs
          (ReadAs.same.apply ((iK L).view.read (Elt F) (m (iLoc d)))) Finset.univ)) hn hk) x
      = want m d (outIx L ((rWin o hr).emb x)) := by
  have e : (sK o hs).view.read (Elt F) (View.write (Elt F) (sV).view fs (ReadAs.same.apply ((iK L).view.read (Elt F) (m (iLoc d)))) Finset.univ)
      (S16.rowMajor.symm ((x 0).cast hn.symm)) = m (iLoc d) (ix1 (outIx L ((rWin o hr).emb x) 0)) := by
    rw [View.write_whole_univ]
    show m (iLoc d) ((iK L).view.emb ((sK o hs).view.emb (S16.rowMajor.symm ((x 0).cast hn.symm)))) = _
    refine congrArg (m (iLoc d)) (funext fun a => Fin.ext ?_)
    match a with
    | 0 =>
      have hx : (S16.rowMajor.symm ((x 0).cast hn.symm) 0).val = (x 0).val := by
        rw [← Shape.rowMajor_val_one, Equiv.apply_symm_apply]; rfl
      show k0_off1 L 0 + 1 * (o + 1 * (S16.rowMajor.symm ((x 0).cast hn.symm) 0).val) = 64 * (L 1).val + (o + 1 * (x 0).val)
      rw [hx, k0_off1_eq]
      show 64 * (L 1).val + 1 * (o + 1 * (x 0).val) = 64 * (L 1).val + (o + 1 * (x 0).val)
      omega
  refine congrArg (m (xLoc d)) (funext fun a => Fin.ext ?_)
  match a with
  | 0 =>
    show 0 + 1 * (gathers_S100000x128_S16x128.idx _ x gathers_S100000x128_S16x128.axis).val = _
    rw [Shape.Gathers.idx_axis]
    show 0 + 1 * (BitVec.toNat ((sK o hs).view.read (Elt F) (View.write (Elt F) (sV).view fs
      (ReadAs.same.apply ((iK L).view.read (Elt F) (m (iLoc d)))) Finset.univ) (S16.rowMajor.symm ((x 0).cast hn.symm)))) = (rowNo (m (iLoc d) (ix1 (outIx L ((rWin o hr).emb x) 0)))).val
    rw [rowNo_val (hpre d _), ← e]
    omega
  | 1 =>
    show 0 + 1 * (gathers_S100000x128_S16x128.idx _ x 1).val = 0 + 1 * (x 1).val
    rw [Shape.Gathers.idx_of_ne _ _ _ _ (by decide)]
    rfl

omit [FloatOps F] in
/-- The row scratch after the four gathers, whatever it held before: row `y` of it is row `64 i + y` of `out` as wanted. The four
    windows cover it, and each gather brought its own window's rows. -/
theorem scratch_value (fr : Buf (Elt F) ((V d (cV L) (jV L)).loc cc0_scratch1)) (w0 w1 w2 w3 : S16x128.Idx → Elt F .f32)
    (h0 : ∀ x, w0 x = want m d (outIx L ((rWin 0 inb_S64x128_S16x128_0_0).emb x)))
    (h1 : ∀ x, w1 x = want m d (outIx L ((rWin 16 inb_S64x128_S16x128_16_0).emb x)))
    (h2 : ∀ x, w2 x = want m d (outIx L ((rWin 32 inb_S64x128_S16x128_32_0).emb x)))
    (h3 : ∀ x, w3 x = want m d (outIx L ((rWin 48 inb_S64x128_S16x128_48_0).emb x))) (y : S64x128.Idx) :
    (rV).view.read (Elt F) ((rV).view.writes (Elt F) fr [⟨rWin 48 inb_S64x128_S16x128_48_0, w3⟩, ⟨rWin 32 inb_S64x128_S16x128_32_0, w2⟩,
      ⟨rWin 16 inb_S64x128_S16x128_16_0, w1⟩, ⟨rWin 0 inb_S64x128_S16x128_0_0, w0⟩]) y = want m d (outIx L y) := by
  refine View.read_writes_apply_of_pieces (rV).view (f := fr) (fun y => want m d (outIx L y)) _ ?_ y ?_
  · intro p hp
    simp only [List.mem_cons, List.not_mem_nil, or_false] at hp
    rcases hp with rfl | rfl | rfl | rfl
    · exact h3
    · exact h2
    · exact h1
    · exact h0
  · have hy : ∀ (o : ℕ) (ho), o ≤ (y 0).val → (y 0).val < o + 16 → y ∈ (rWin o ho).set := fun o ho h h' =>
      (rWin o ho).mem_set.mpr fun a => match a with
        | 0 => ⟨(y 0).val - o, by show _ < 16; omega, by show (y 0).val = o + 1 * _; omega⟩
        | 1 => ⟨(y 1).val, (y 1).isLt, by show (y 1).val = 0 + 1 * _; omega⟩
    have hlt : (y 0).val < 64 := (y 0).isLt
    rcases (by omega : (y 0).val < 16 ∨ (16 ≤ (y 0).val ∧ (y 0).val < 32) ∨ (32 ≤ (y 0).val ∧ (y 0).val < 48) ∨ 48 ≤ (y 0).val) with h | h | h | h
    · exact ⟨_, .tail _ (.tail _ (.tail _ (.head _))), hy 0 inb_S64x128_S16x128_0_0 (by omega) (by omega)⟩
    · exact ⟨_, .tail _ (.tail _ (.head _)), hy 16 inb_S64x128_S16x128_16_0 (by omega) (by omega)⟩
    · exact ⟨_, .tail _ (.head _), hy 32 inb_S64x128_S16x128_32_0 (by omega) (by omega)⟩
    · exact ⟨_, .head _, hy 48 inb_S64x128_S16x128_48_0 (by omega) (by omega)⟩

omit [FloatOps F] in
/-- Sixteen rows written out to chunk `k` leave `out` as wanted there, if they are the wanted rows. -/
theorem chunk_value (k : Fin 4) (hr : ∀ a, (![16 * k.val, 0] : Fin 2 → ℕ) a + S16x128.size a ≤ S64x128.size a)
    (fo : Buf (Elt F) (oLoc d)) (w : S16x128.Idx → Elt F .f32)
    (hw : ∀ x, w x = want m d (outIx L ((rWin (16 * k.val) hr).emb x))) :
    ((oK L k).view.loc (V d (cV L) (jV L)) ↦[(oK L k).view.set]{fullShare}
        (oK L k).view.writes (Elt F) fo [⟨Rect.whole S16x128, w⟩] : sProp 𝕄)
      = oLoc d ↦[oSet (jL L) k]{fullShare} want m d := by
  rw [← pts_o d L k (want m d)]
  refine pointsTo_congr fun i hi => ?_
  obtain ⟨x, -, rfl⟩ := Finset.mem_map.mp hi
  refine (congrFun (View.read_writes_whole (oK L k).view fo w) x).trans ((hw x).trans (congrArg (want m d) (funext fun a => Fin.ext ?_)))
  show (outIx L ((rWin (16 * k.val) hr).emb x) a).val = k0_off2 L (BitVec.ofNat 32 (16 * k.val)) a + 1 * (x a).val
  rw [k0_off2_eq]
  match a with
  | 0 => show 64 * (L 1).val + (16 * k.val + 1 * (x 0).val) = 64 * (L 1).val + 16 * k.val + 1 * (x 0).val; omega
  | 1 => rfl

set_option maxHeartbeats 4000000 in
/-- The task of the tile at grid point `L`: it runs without fault, and from its pieces at the launch contents it ends with its
    entries of `idx` and its share of the table as they were and its four chunks of `out` holding the rows wanted there. Its scratch
    and its semaphores are back, the latter at zero. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp
        ∗ (iPiece m d (jL L) ∗ xPiece m d (jL L) ∗ oPiece d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scratch3 cc0_scratch4 cc0_scratch5
            cc0_scratch6 cc0_scratch7 cc0_scratch8 cc0_scratch9 cc0_scoped0)
          fun _ => iprop((iPiece m d (jL L) ∗ xPiece m d (jL L) ∗ oPiece d (jL L) (want m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part3_eq_skeleton]; unfold k0_part3_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), sems_own, bufs_own]
  unfold oPiece
  rw [four]
  iintro ⟨#Hlv, -, ⟨Hi, Hx, Ho0, Ho1, Ho2, Ho3⟩, ⟨⟨%fs, Hs⟩, ⟨%fr, Hr⟩, Hbufs⟩, ⟨Hf, Hg0, Hg1, Hg2, Hg3, Hw0, Hw1, Hw2, Hw3⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_i (F := F) d L _).symm) $$ Hi
  ihave Ho0' := (Entails.of_eq (pts_o (F := F) d L 0 _).symm) $$ Ho0
  ihave Ho1' := (Entails.of_eq (pts_o (F := F) d L 1 _).symm) $$ Ho1
  ihave Ho2' := (Entails.of_eq (pts_o (F := F) d L 2 _).symm) $$ Ho2
  ihave Ho3' := (Entails.of_eq (pts_o (F := F) d L 3 _).symm) $$ Ho3
  ihave Hx' := (Transfers.pointsTo_toks_split (xShare (jL L)) 4) $$ Hx
  rw [four]
  icases Hx' with ⟨Hxr, Hx0, Hx1, Hx2, Hx3⟩
  ihave Hs' := (Entails.of_eq (show ((V d (cV L) (jV L)).loc cc0_scratch0 ↦{fullShare} fs : sProp 𝕄)
    = (sV).view.loc (V d (cV L) (jV L)) ↦{fullShare} fs from rfl)) $$ Hs
  ihave Hr' := (Entails.of_eq (show ((V d (cV L) (jV L)).loc cc0_scratch1 ↦{fullShare} fr : sProp 𝕄)
    = (rV).view.loc (V d (cV L) (jV L)) ↦{fullShare} fr from rfl)) $$ Hr
  ihave Hx0' := (Entails.of_eq (pts_x (F := F) d L _ _).symm) $$ Hx0
  ihave Hx1' := (Entails.of_eq (pts_x (F := F) d L _ _).symm) $$ Hx1
  ihave Hx2' := (Entails.of_eq (pts_x (F := F) d L _ _).symm) $$ Hx2
  ihave Hx3' := (Entails.of_eq (pts_x (F := F) d L _ _).symm) $$ Hx3
  have hin0 := hin (F := F) m d L hpre 0 inb_S64_S16_0
  have hin1 := hin (F := F) m d L hpre 16 inb_S64_S16_16
  have hin2 := hin (F := F) m d L hpre 32 inb_S64_S16_32
  have hin3 := hin (F := F) m d L hpre 48 inb_S64_S16_48
  have carried := scratch_value (F := F) m d L fr _ _ _ _
    (gather_value (F := F) m d L hpre 0 inb_S64_S16_0 inb_S64x128_S16x128_0_0 fs rfl (hin0 fs))
    (gather_value (F := F) m d L hpre 16 inb_S64_S16_16 inb_S64x128_S16x128_16_0 fs rfl (hin1 fs))
    (gather_value (F := F) m d L hpre 32 inb_S64_S16_32 inb_S64x128_S16x128_32_0 fs rfl (hin2 fs))
    (gather_value (F := F) m d L hpre 48 inb_S64_S16_48 inb_S64x128_S16x128_48_0 fs rfl (hin3 fs))
  sl_exec
  sl_step
  isplitl [Hi' Hxr Hx0' Hx1' Hx2' Hx3' Ho0' Ho1' Ho2' Ho3']
  · isplitl [Hi']
    · iapply (Entails.of_eq (pts_i (F := F) d L _)) $$ Hi'
    isplitl [Hxr Hx0' Hx1' Hx2' Hx3']
    · iapply (Transfers.pointsTo_toks_join (xShare (jL L)) 4)
      rw [four]
      isplitl [Hxr]; · iexact Hxr
      isplitl [Hx0']; · iexact Hx0'
      isplitl [Hx1']; · iexact Hx1'
      isplitl [Hx2']; · iexact Hx2'
      iexact Hx3'
    · rw [four]
      isplitl [Ho0']
      · iapply (Entails.of_eq (chunk_value (F := F) m d L 0 inb_S64x128_S16x128_0_0 (m (oLoc d))
        (tile_body.sl.dma0_1 m d L fs fr hin0 hin1 hin2 hin3) (fun x => carried _))) $$ Ho0'
      isplitl [Ho1']
      · iapply (Entails.of_eq (chunk_value (F := F) m d L 1 inb_S64x128_S16x128_16_0 (m (oLoc d))
        (tile_body.sl.dma0_2 m d L fs fr hin0 hin1 hin2 hin3) (fun x => carried _))) $$ Ho1'
      isplitl [Ho2']
      · iapply (Entails.of_eq (chunk_value (F := F) m d L 2 inb_S64x128_S16x128_32_0 (m (oLoc d))
        (tile_body.sl.dma0_3 m d L fs fr hin0 hin1 hin2 hin3) (fun x => carried _))) $$ Ho2'
      iapply (Entails.of_eq (chunk_value (F := F) m d L 3 inb_S64x128_S16x128_48_0 (m (oLoc d))
        (tile_body.sl.dma0_4 m d L fs fr hin0 hin1 hin2 hin3) (fun x => carried _))) $$ Ho3'
  isplitl [Hs' Hr' Hbufs]
  · isplitl [Hs']; · iexists _; iexact Hs'
    isplitl [Hr']; · iexists _; iexact Hr'
    iexact Hbufs
  isplitl [Hf Hg0 Hg1 Hg2 Hg3 Hw0 Hw1 Hw2 Hw3]
  · isplitl [Hf]; · iexact Hf
    isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    iexact Hw3
  iexists _
  isplitr [HO]
  swap
  · iexact HO
  ipureintro
  intro p hp
  iterate 9
    rcases Finset.mem_insert.mp hp with hp | hp
    · exact .inr (hp ▸ rfl)
  exact .inl hp

end Cert.Proof.Take

end
-- ==== Proof.Run.lean ====
/-
  THE KERNEL'S RUN. The one SparseCore call takes the three arrays whole. Each of its sixteen tiles is handed its pieces
  (Setup.lean) and brings them back, its four chunks of `out` at the rows wanted there (`tile_body`, Tile.lean); the sixteen
  hand-backs are the arrays again, `out` now holding `want` everywhere (`vecSplit`). From this `run_main`: launched on a
  memory whose `idx` is in range, over any kind of float values, the program runs without fault, leaves `x` and `idx` as
  they were, leaves `taken x idx` in `out`, and ends with every semaphore at zero.
-/
module

public import proofs.«01_k».proof.Proof.Tile

@[expose] public section

noncomputable section

namespace Cert.Proof.Take

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable (m : (ℓ : Loc nD τ sig) → Buf (Elt F) ℓ)

local notation "𝕄" => MT nD τ sig (HIx 1) (Elt F) ℕ UU ℕ
local notation "xV" => (Memref.whole Cert.KernelIdeal.main_arg0_scv : Memref Cert.KernelIdeal.sig Kind.scVector Space.hbm Cert.KernelIdeal.S100000x128 EltTy.f32)
local notation "iV" => (Memref.whole Cert.KernelIdeal.main_arg1_scv : Memref Cert.KernelIdeal.sig Kind.scVector Space.hbm Cert.KernelIdeal.S1024 EltTy.i32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

/-! ## What the call and its tasks exchange -/

/-- Tile `i`'s pieces, its chunks of `out` at contents `f`. -/
abbrev pieces (d : Dev nD) (i : Fin 16) (f : Buf (Elt F) (oLoc d)) : sProp 𝕄 :=
  iprop(iPiece m d i ∗ xPiece m d i ∗ oPiece d i f)
/-- The three arrays whole, `out` at contents `f`. -/
abbrev arrays (d : Dev nD) (f : Buf (Elt F) (oLoc d)) : sProp 𝕄 :=
  iprop((iLoc d ↦{fullShare} m (iLoc d)) ∗ (xLoc d ↦{fullShare} m (xLoc d)) ∗ oLoc d ↦{fullShare} f)

/-- The call takes the arrays as launched and gives them back with `out` as wanted; so, of its pieces, does each task. -/
def P : (K (F := F)).Pay (nD := nD) (Val := Elt F) (Name := ℕ) (U := UU) where
  st := fun q d _ => match q with | 0 => arrays m d (m (oLoc d))
  dn := fun q d _ => match q with | 0 => arrays m d (want m d)
  go := fun q d _ i => match q with | 0 => pieces m d (Fin.cast nSub_call i) (m (oLoc d))
  td := fun q d _ i => match q with | 0 => pieces m d (Fin.cast nSub_call i) (want m d)
  x := fun _ _ => iprop(emp)

instance P_storable : (P (F := F) m).IsStorable where
  st q d _ := match q with | 0 => (inferInstance : BI.Storable (upEmb : UEmb _ 𝕄) (arrays m d (m (oLoc d))))
  dn q d _ := match q with | 0 => (inferInstance : BI.Storable (upEmb : UEmb _ 𝕄) (arrays m d (want m d)))
  go q d _ i := match q with | 0 => (inferInstance : BI.Storable (upEmb : UEmb _ 𝕄) (pieces m d (Fin.cast nSub_call i) (m (oLoc d))))
  td q d _ i := match q with | 0 => (inferInstance : BI.Storable (upEmb : UEmb _ 𝕄) (pieces m d (Fin.cast nSub_call i) (want m d)))

/-- The arrays are the tiles' pieces and what is left of the table's share once each tile has its own. -/
theorem arrays_deal (d : Dev nD) (f g : Buf (Elt F) (oLoc d)) :
    arrays m d f ⊢ iprop((bigSep Finset.univ fun i : Fin 16 => pieces m d i f)
      ∗ ((bigSep Finset.univ fun i : Fin 16 => pieces m d i g) -∗ arrays m d g)) := by
  rw [bigSep_sep', bigSep_sep', bigSep_sep', bigSep_sep']
  unfold arrays
  rw [idx_parts, out_chunks, out_chunks]
  iintro ⟨Hi, Hx, Ho⟩
  ihave Hx' := (Transfers.pointsTo_toks_split fullShare 16) $$ Hx
  icases Hx' with ⟨Hrest, Hx⟩
  isplitl [Hi Hx Ho]
  · isplitl [Hi]; · iexact Hi
    isplitl [Hx]; · iexact Hx
    iexact Ho
  iintro ⟨Hi, Hx, Ho⟩
  isplitl [Hi]; · iexact Hi
  isplitl [Hrest Hx]
  · iapply (Transfers.pointsTo_toks_join fullShare 16)
    isplitl [Hrest]; · iexact Hrest
    iexact Hx
  iexact Ho

/-- The call's tasks are the sixteen tiles. -/
theorem tasks_are_tiles (Φ : Fin 16 → sProp 𝕄) :
    (bigSep Finset.univ fun i : Fin ((K (F := F)).nSub 0) => Φ (Fin.cast nSub_call i)) = bigSep Finset.univ Φ :=
  bigSep_congr fun _ _ => congrArg Φ (Fin.ext rfl)

/-- The call's arrays split among its tasks, and the tasks' hand-backs join to what the call gives back. -/
theorem vecSplit : (K (F := F)).VecSplit' (P m) 0 := by
  intro d c
  show arrays m d (m (oLoc d)) ⊢ |={Set.univ}=> iprop(
      (bigSep Finset.univ fun i : Fin ((K (F := F)).nSub 0) => pieces m d (Fin.cast nSub_call i) (m (oLoc d)))
      ∗ ((bigSep Finset.univ fun i : Fin ((K (F := F)).nSub 0) => pieces m d (Fin.cast nSub_call i) (want m d)) -∗ arrays m d (want m d)))
  rw [tasks_are_tiles (F := F) (fun i => pieces m d i (m (oLoc d))), tasks_are_tiles (F := F) (fun i => pieces m d i (want m d))]
  exact (arrays_deal m d _ _).trans (by iintro H; imodintro; iexact H)

/-! ## Each task meets its triple -/

section Task
variable [FloatOps F]

/-- The grid point of a SparseCore and a tile. -/
def at_ (c : Fin (grid0.bound 0)) (s : Fin (grid0.bound 1)) : grid0.Coords :=
  fun | 0 => c | 1 => s | ⟨_ + 2, h⟩ => absurd h (Nat.not_lt.2 (Nat.le_add_left _ _))

/-- What the program runs on a tile is the kernel's body at the tile's grid point. -/
theorem task_eq (c : Fin τ.nSC) (s : Fin τ.nSub) :
    defs₀ (F := F) (.scVector c s) 0 ()
      = SparseCore.onTile hcore0 hsub0 (fun c s => cc0_k (at_ c s) xV (Memref.isWhole_whole _) iV (Memref.isWhole_whole _)
          oV (Memref.isWhole_whole _) sV (Memref.isWhole_whole _) rV (Memref.isWhole_whole _) cc0_scratch2 cc0_scratch3
          cc0_scratch4 cc0_scratch5 cc0_scratch6 cc0_scratch7 cc0_scratch8 cc0_scratch9 cc0_scoped0) ⟨⟩ c s := rfl

omit [FloatOps F] in
/-- A task that waits on nothing of the launch's has waited on no more than it is allowed to. -/
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call, from its pieces at the launch contents, gives them back with its chunks of `out` as wanted. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_body m d (at_ ⟨_, hci.1⟩ ⟨_, hci.2⟩) hF hpre O W hO).trans (wp_mono frame _ _ fun _ => weaken_waits)

end Task

/-! ## The launch's ghost state -/

/-- The handshakes' rounds at their start; no counter. -/
def u₀ : UU := (initOf (K (F := F)).hsCells (K (F := F)).hsToks, 1)

/-- What the launch theorem asks of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_left : (bigSep Finset.univ fun thr : Thread nD τ => bigSep Finset.univ fun q : Fin 1 => (P (F := F) m).x q thr) = iprop(emp) :=
    (bigSep_congr fun _ _ => bigSep_univ_of_subsingleton (0 : Fin 1)).trans (bigSep_emp_const _)
  rw [none_left, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitl <;> iempintro

/-! ## @main -/

/-- @main's arrays are `x`, `idx` and `out`. -/
theorem mainBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The call runs on one SparseCore: what it takes, and what it gives back. -/
theorem st_eq (d : Dev nD) : (bigSep Finset.univ fun c : Fin ((K (F := F)).nCore 0) => (P m).st 0 d c) = arrays m d (m (oLoc d)) :=
  bigSep_univ_of_subsingleton (0 : Fin 1)
theorem dn_eq (d : Dev nD) : (bigSep Finset.univ fun c : Fin ((K (F := F)).nCore 0) => (P m).dn 0 d c) = arrays m d (want m d) :=
  bigSep_univ_of_subsingleton (0 : Fin 1)

variable [FloatOps F] (ρ : Dev nD → PrngReg)

/-- @main on a device: the one call, after which `x` and `idx` are as launched and `out` is as wanted. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (want m d) ∗ (K (F := F)).tcEnd d) := by
  unfold SparseCore.Cfg.tcRes SparseCore.Cfg.tcEnd
  rw [mainBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-- A device's arrays at the end: `idx` and `x` as launched, `out` as wanted. -/
def Ended (d : Dev nD) (s : Phys nD τ sig (Elt F)) : Prop :=
  s.mem.mem (iLoc d) = m (iLoc d) ∧ s.mem.mem (xLoc d) = m (xLoc d) ∧ s.mem.mem (oLoc d) = want m d

omit [FloatOps F] in
/-- An array held whole at contents `f` is in memory at `f`. -/
theorem held (ℓ : Loc nD τ sig) (f : Buf (Elt F) ℓ) (s : Phys nD τ sig (Elt F)) :
    iprop(SI s ∗ (ℓ ↦{fullShare} f)) ⊢ (iprop(⌜s.mem.mem ℓ = f⌝ ∗ SI s) : sProp 𝕄) := by
  iintro H
  ihave H' := (persistent_entails_right (SI_pointsTo_agree (st := s) (ℓ := ℓ) (I := Finset.univ) (q := fullShare) (f := f))) $$ H
  icases H' with ⟨%h, HSI, -⟩
  isplitr
  · ipureintro; exact funext fun i => h i (Finset.mem_univ i)
  · iexact HSI

omit [FloatOps F] in
/-- What @main ends with says what memory holds. -/
theorem hfin (d : Dev nD) (s : Phys nD τ sig (Elt F)) : iprop(arrays m d (want m d) ∗ SI s) ⊢ (⌜Ended m d s⌝ : sProp 𝕄) := by
  iintro ⟨⟨Hi, Hx, Ho⟩, HSI⟩
  ihave H := (held (iLoc d) (m (iLoc d)) s) $$ [HSI Hi]
  · isplitl [HSI] <;> iassumption
  icases H with ⟨%hi, HSI⟩
  ihave H := (held (xLoc d) (m (xLoc d)) s) $$ [HSI Hx]
  · isplitl [HSI] <;> iassumption
  icases H with ⟨%hx, HSI⟩
  ihave H := (held (oLoc d) (want m d) s) $$ [HSI Ho]
  · isplitl [HSI] <;> iassumption
  icases H with ⟨%ho, HSI⟩
  ipureintro; exact ⟨hi, hx, ho⟩

/-! ## The run -/

/-- What the run ends in: on every device `idx` and `x` unchanged and `taken x idx` in `out`; every semaphore at zero. -/
def Final : PUnit × MemSt nD τ sig (Elt F) → Prop := fun r =>
  (∀ d : Dev nD, r.2.mem (iLoc d) = m (iLoc d) ∧ r.2.mem (xLoc d) = m (xLoc d) ∧ r.2.mem (oLoc d) = want m d) ∧ r.2.sem = fun _ => 0

/-- THE KERNEL'S RUN, over any float values: on a launch memory whose `idx` is in range it terminates without fault, in `Final`. -/
theorem run_main [∀ e, Nonempty (Elt F e)] (hpre : InRange m) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (want m d)) (u₀ (F := F)) (sep_elim_left.trans (hu₀ m)) (hmain m ρ)
    (Ended m) (hfin m) (Final m) (fun _ h hz => ⟨h, hz⟩)

/-! ## The precondition -/

/-- The precondition's function is all ones only if every word of its second argument is, as a signed number, from 0 to 99999: as an
    unsigned one, below 100000. -/
theorem below_of_pre (x : FVec F Cert.Pre_in_range.S100000x128 .f32) (ids : IVec Cert.Pre_in_range.S1024 32)
    (h : Cert.Pre_in_range.fn (F := F) x ids = fun _ => 1#1) (j : S1024.Idx) : (ids j).toNat < 100000 := by
  have : Subsingleton Cert.Pre_in_range.S_.Idx := ⟨fun a b => funext fun i => i.elim0⟩
  have e := Host.reduce_andi_all _ _ _ _ (fun i => i.elim0) (congrFun h (fun i => i.elim0)) j
  have bit (p q : Bool) : IntOp.andi (BitVec.ofBool p) (BitVec.ofBool q) = 1#1 → p = true ∧ q = true := by
    cases p <;> cases q <;> decide
  simp only [andi, cmpi, broadcastInDim, constantI, IntOp.cmpi] at e
  have e' := bit _ _ e
  simp only [BitVec.sle_eq_decide, BitVec.slt_eq_decide, decide_eq_true_eq, BitVec.toInt_eq_toNat_cond, BitVec.toNat_ofNat,
    Nat.reducePow, Nat.reduceMod] at e'
  omega

/-! ## The two frames -/

/-- The kernel as it is, over bit patterns. -/
theorem frame_kernel : Cert.quiescent_Kernel := fun m ρ hpre =>
  (θ_run Cert.KernelIdeal.defs _ _).mono (fun _ h => ⟨fun c => ⟨(h.1 c).2.1, (h.1 c).1⟩, h.2⟩)
    (run_main (F := Bits) m ρ fun d => below_of_pre _ _ (hpre d))

/-- The kernel over the extended reals. -/
theorem frame_kernelIdeal : Cert.quiescent_KernelIdeal := fun m ρ hpre =>
  (θ_run Cert.KernelIdeal.defs _ _).mono (fun _ h => ⟨fun c => ⟨(h.1 c).2.1, (h.1 c).1⟩, h.2⟩)
    (run_main (F := Ideal) m ρ fun d => below_of_pre _ _ (hpre d))

end Cert.Proof.Take

end
-- ==== Proof.Reference.lean ====
/-
  THE REFERENCE'S RESULT. `jnp.take` in jax's default mode wraps a negative row number around, looks the rows up by a
  gather that cuts a number off at the last row, and overwrites with NaN every row whose (wrapped) number is out of
  range. For row numbers from 0 to 99999 none of the three does anything, and the result is `taken x idx` (Rows.lean):
  `reference_value`. From this `algebraic`: the kernel and the reference, over the extended reals and from memories that
  agree on `x` and `idx`, leave the same array in their results.
-/
module

public import proofs.«01_k».proof.Proof.Run
public import proofs.«01_k».proof.Proof.Gen.ReferenceIdeal.Run
public import Idealize.ShloMosaic.Lib.Routing.Ops

@[expose] public section

noncomputable section

namespace Cert.Proof.Take

open Cert.ReferenceIdeal Cert.ReferenceIdeal.Gen
open Idealize.ShloMosaic Idealize.ShloMosaic.ValueIdx
open Idealize.SL.Sem

/-- A row number as the reference wraps it around: a negative one has the number of rows added. -/
abbrev wrapped (ids : IVec S1024 32) : IVec S1024 32 :=
  select (cmpi .slt ids (broadcastInDim S1024 ![] bcast_S_S1024 (constantI S_ 32 0#32)))
    (addi ids (broadcastInDim S1024 ![] bcast_S_S1024 (constantI S_ 32 100000#32))) ids

/-- The row numbers as the column of start indices the reference's gather takes. -/
abbrev column (ids : IVec S1024 32) : IVec S1024x1 32 := broadcastInDim S1024x1 ![0] bcast_S1024_S1024x1_0 ids

/-- Per result row, whether its number is in range: 1 if it is. -/
abbrev kept (ids : IVec S1024 32) : IVec S1024 1 :=
  Host.reduce IntOp.andi
    (andi (cmpi .sge (column ids) (broadcastInDim S1024x1 ![] bcast_S_S1024x1 (constantI S_ 32 0#32)))
      (cmpi .sle (column ids) (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

variable {F : FTy → Type} [FloatOps F]

/-- The reference's result as a function of its arguments. -/
abbrev looked (x : FVec F S100000x128 .f32) (ids : IVec S1024 32) : FVec F S1024x128 .f32 :=
  select (broadcastInDim S1024x128 ![0] bcast_S1024_S1024x128_0 (kept (wrapped ids)))
    (Host.gather gather_S100000x128_S1024x1_S1024x128_1_0_n_n_0_1_1128 x (column (wrapped ids)))
    (broadcastInDim S1024x128 ![] bcast_S_S1024x128 (constant S_ .f32 0x7FC00000#32))

/-- A word below 100000, read as a signed number, is not negative and at most 99999. -/
theorem signed_range {v : BitVec 32} (h : v.toNat < 100000) :
    v.slt 0#32 = false ∧ (0#32).sle v = true ∧ v.sle 99999#32 = true := by
  simp only [BitVec.sle_eq_decide, BitVec.slt_eq_decide, decide_eq_true_eq, decide_eq_false_iff_not, BitVec.toInt_eq_toNat_cond,
    BitVec.toNat_ofNat, Nat.reducePow, Nat.reduceMod]
  omega

/-- Row numbers in range are not wrapped. -/
theorem wrapped_eq {ids : IVec S1024 32} (h : ∀ j, (ids j).toNat < 100000) : wrapped ids = ids := by
  funext j
  show Scalar.select (BitVec.ofBool ((ids j).slt 0#32)) _ (ids j) = ids j
  rw [(signed_range (h j)).1]
  rfl

/-- Row numbers in range are all found to be so. -/
theorem kept_eq {ids : IVec S1024 32} (h : ∀ j, (ids j).toNat < 100000) (j : S1024.Idx) : kept ids j = 1#1 := by
  refine Host.reduce_andi_one _ _ _ _ _ rfl fun i => ?_
  have r := signed_range (v := column ids i) (h _)
  show IntOp.andi (BitVec.ofBool ((0#32).sle (column ids i))) (BitVec.ofBool ((column ids i).sle 99999#32)) = 1#1
  rw [r.2.1, r.2.2]
  rfl

/-- THE REFERENCE'S VALUE: for row numbers in range it is the rows they name. -/
theorem reference_value (x : FVec F S100000x128 .f32) {ids : IVec S1024 32} (h : ∀ j, (ids j).toNat < 100000) :
    looked x ids = taken x ids := by
  unfold looked
  rw [wrapped_eq h]
  funext j
  show Scalar.select (kept ids _) (Host.gather _ x (column ids) j) _ = _
  rw [kept_eq h, select_one]
  obtain ⟨c, y, rfl⟩ : ∃ (c : Fin 1024) (y : Fin 128), j = ix2 c y := ⟨j 0, j 1, funext fun a => match a with | 0 => rfl | 1 => rfl⟩
  refine (Routing.gather_row gather_S100000x128_S1024x1_S1024x128_1_0_n_n_0_1_1128 rfl rfl rfl rfl rfl x (column ids) c y
    (rowNo (ids (ix1 c))) ?_ (by decide)).trans rfl
  rw [rowNo_val (h _), BitVec.ofNat_toNat, BitVec.setWidth_eq]
  exact congrArg ids (funext fun a => match a with | 0 => rfl)

/-- The reference runs without fault and leaves its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same under the precondition. -/
theorem frame_reference_pre : Cert.quiescent_ReferenceIdeal_pre_in_range := fun m ρ _ => frame_reference m ρ trivial

/-- THE VALUE CLAIM: over the extended reals, from memories that agree on `x` and `idx`, `idx` in range, both programs run, both leave
    `taken x idx` in their results, and both leave their arguments as they were. -/
theorem algebraic : Cert.algebraic_KernelIdeal_ReferenceIdeal := by
  intro m ρ m' ρ' hpre hargs
  have hin : InRange (F := Ideal) m := fun d => below_of_pre _ _ (hpre d)
  refine ⟨fun c => want (F := Ideal) m c, ?_, ?_⟩
  · exact (θ_run Cert.KernelIdeal.defs _ _).mono (fun _ h c => ⟨(h.1 c).2.2, (h.1 c).2.1, (h.1 c).1⟩) (run_main (F := Ideal) m ρ hin)
  · refine (θ_run Cert.ReferenceIdeal.defs _ _).mono (fun _ h c => ⟨(h c).1.trans ?_, (h c).2⟩)
      (Cert.ReferenceIdeal.Value.run (F := Ideal) m' ρ')
    rw [(hargs c).1, (hargs c).2]
    exact reference_value (F := Ideal) _ (hin c)

end Cert.Proof.Take

end
-- ==== Proof.lean ====
/-
  THE CERTIFICATE: the six conjuncts of `Cert.Claim` (proofs.«01_k».proof.Defs), each from the module that proves it.
  The kernel's two frames are one run, `Take.run_main` (Proof/Run.lean), at the two kinds of float values; the reference's
  frames and the value claim are in Proof/Reference.lean. No operation was rewritten between the kernel and its ideal
  program, so `preserves` has nothing to show.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Reference
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_range.Gen.facts,
  Take.frame_kernel, Take.frame_kernelIdeal, Take.frame_reference, Take.frame_reference_pre, trivial, Take.algebraic⟩

end Cert.Proof

end
